-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x11008 : Shape := ⟨3, ![8, 3072, 11008]⟩
abbrev S8x3072x1 : Shape := ⟨3, ![8, 3072, 1]⟩
abbrev S11008x4096 : Shape := ⟨2, ![11008, 4096]⟩
abbrev S4096 : Shape := ⟨1, ![4096]⟩
abbrev S24576x11008 : Shape := ⟨2, ![24576, 11008]⟩
abbrev S24576x1 : Shape := ⟨2, ![24576, 1]⟩
abbrev S1x4096 : Shape := ⟨2, ![1, 4096]⟩
abbrev S24576x4096 : Shape := ⟨2, ![24576, 4096]⟩
abbrev S512x11008 : Shape := ⟨2, ![512, 11008]⟩
abbrev S512x1 : Shape := ⟨2, ![512, 1]⟩
abbrev S11008x512 : Shape := ⟨2, ![11008, 512]⟩
abbrev S1x512 : Shape := ⟨2, ![1, 512]⟩
abbrev S512x512 : Shape := ⟨2, ![512, 512]⟩
abbrev S8x3072x4096 : Shape := ⟨3, ![8, 3072, 4096]⟩

abbrev nBuf : Space → Nat
  | .hbm => 11
  | .vmem => 12
  | .smem => 0
  | _ => 0

abbrev bufTy : (tb : Table) → Fin (tcTables nBuf tb) → BufTy
  | .hbm, ⟨0, _⟩ => ⟨S8x3072x11008, .fp8e4m3⟩
  | .hbm, ⟨1, _⟩ => ⟨S8x3072x1, .f32⟩
  | .hbm, ⟨2, _⟩ => ⟨S11008x4096, .fp8e4m3⟩
  | .hbm, ⟨3, _⟩ => ⟨S4096, .f32⟩
  | .hbm, ⟨4, _⟩ => ⟨S4096, .f32⟩
  | .hbm, ⟨5, _⟩ => ⟨S24576x11008, .fp8e4m3⟩
  | .hbm, ⟨6, _⟩ => ⟨S24576x1, .f32⟩
  | .hbm, ⟨7, _⟩ => ⟨S1x4096, .f32⟩
  | .hbm, ⟨8, _⟩ => ⟨S1x4096, .f32⟩
  | .hbm, ⟨9, _⟩ => ⟨S24576x4096, .bf16⟩
  | .hbm, ⟨10, _⟩ => ⟨S8x3072x4096, .bf16⟩
  | .local _ .vmem, ⟨0, _⟩ => ⟨S512x11008, .fp8e4m3⟩
  | .local _ .vmem, ⟨1, _⟩ => ⟨S512x11008, .fp8e4m3⟩
  | .local _ .vmem, ⟨2, _⟩ => ⟨S512x1, .f32⟩
  | .local _ .vmem, ⟨3, _⟩ => ⟨S512x1, .f32⟩
  | .local _ .vmem, ⟨4, _⟩ => ⟨S11008x512, .fp8e4m3⟩
  | .local _ .vmem, ⟨5, _⟩ => ⟨S11008x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | _, _ => ⟨S8x3072x11008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S11008x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x3072x11008 : Shape := ⟨3, ![8, 3072, 11008]⟩
abbrev S8x3072x1 : Shape := ⟨3, ![8, 3072, 1]⟩
abbrev S11008x4096 : Shape := ⟨2, ![11008, 4096]⟩
abbrev S4096 : Shape := ⟨1, ![4096]⟩
abbrev S8x3072x4096 : Shape := ⟨3, ![8, 3072, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8x3072x11008, .fp8e4m3⟩
  | .hbm, ⟨1, _⟩ => ⟨S8x3072x1, .f32⟩
  | .hbm, ⟨2, _⟩ => ⟨S11008x4096, .fp8e4m3⟩
  | .hbm, ⟨3, _⟩ => ⟨S4096, .f32⟩
  | .hbm, ⟨4, _⟩ => ⟨S4096, .f32⟩
  | .hbm, ⟨5, _⟩ => ⟨S8x3072x4096, .bf16⟩
  | .local _ .vmem, ⟨0, _⟩ => ⟨S8x3072x11008, .fp8e4m3⟩
  | .local _ .vmem, ⟨1, _⟩ => ⟨S8x3072x1, .f32⟩
  | .local _ .vmem, ⟨2, _⟩ => ⟨S11008x4096, .fp8e4m3⟩
  | .local _ .vmem, ⟨3, _⟩ => ⟨S4096, .f32⟩
  | .local _ .vmem, ⟨4, _⟩ => ⟨S4096, .f32⟩
  | .local _ .vmem, ⟨5, _⟩ => ⟨S8x3072x4096, .bf16⟩
  | _, _ => ⟨S8x3072x11008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x3072x11008 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11008x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  Hand-written, untrusted. WHAT ONE BLOCK COMPUTES, over the extended reals: the kernel body's one stored value, read at an
  index of the output block, and the reference's one stored value, read at an index of the whole result. Each is the dot
  product of a row of codes and a column of codes, times the token's scale, times the channel's scale, plus the bias.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof

open Idealize.ShloMosaic

/-- The kernel body's stored value at row `r` and column `l` of the block, from the five input blocks: the dot product over
    the whole contraction, the row's scale, the column's scale, the column's bias. -/
theorem kernel_pay_apply (x : Vec Ideal KernelIdeal.S512x11008 .fp8e4m3) (w : Vec Ideal KernelIdeal.S11008x512 .fp8e4m3)
    (xs : Vec Ideal KernelIdeal.S512x1 .f32) (ws b : Vec Ideal KernelIdeal.S1x512 .f32) (r l : Fin 512) :
    KernelIdeal.Gen.k0_pay1 (F := Ideal) x w xs ws b (ix2 r l)
      = (∑ k : Fin 11008, x (ix2 r k) * w (ix2 k l)) * xs (ix2 r 0) * ws (ix2 0 l) + b (ix2 0 l) := by
  pointwise [KernelIdeal.Gen.k0_pay1]

/-- The reference's stored value at batch `n`, token `s` and channel `l`, from the five whole arguments. -/
theorem reference_pay_apply (x : Vec Ideal ReferenceIdeal.S8x3072x11008 .fp8e4m3) (xs : Vec Ideal ReferenceIdeal.S8x3072x1 .f32)
    (w : Vec Ideal ReferenceIdeal.S11008x4096 .fp8e4m3) (ws b : Vec Ideal ReferenceIdeal.S4096 .f32)
    (n : Fin 8) (s : Fin 3072) (l : Fin 4096) :
    ReferenceIdeal.Gen.k0_pay1 (F := Ideal) x xs w ws b (ix3 n s l)
      = (∑ k : Fin 11008, x (ix3 n s k) * w (ix2 k l)) * xs (ix3 n s 0) * ws (ix1 l) + b (ix1 l) := by
  pointwise [ReferenceIdeal.Gen.k0_pay1]

end Cert.Proof

end
-- ==== Proof.Array.lean ====
/-
  Hand-written, untrusted. WHAT THE KERNEL'S ARRAY HOLDS after the run, over the extended reals: grid point (i, j) writes rows
  512 i … 512 i + 511 and columns 512 j … 512 j + 511 from the rows' and the columns' blocks of the operands, the blocks tile
  the array, so the array is one function (`flat`) of the operands as the launch finds them.
-/
module

public import proofs.«01_k».proof.Proof.Block
public import proofs.«01_k».proof.Proof.Gen.KernelIdeal.Frame
public import Idealize.ShloMosaic.Lib.Pipeline.ValueKit

@[expose] public section

noncomputable section

namespace Cert.Proof

open Idealize.ShloMosaic Idealize.ShloMosaic.TcCoe Cert.KernelIdeal Cert.KernelIdeal.Gen

/-- The scaled product over the flattened tokens: at token `r` and channel `l`, the dot product of row `r` and column `l`,
    times the token's scale, times the channel's scale, plus the channel's bias. -/
def flat (x : Vec Ideal S24576x11008 .fp8e4m3) (xs : Vec Ideal S24576x1 .f32) (w : Vec Ideal S11008x4096 .fp8e4m3)
    (ws b : Vec Ideal S1x4096 .f32) : Vec Ideal S24576x4096 .bf16 :=
  fun i => (∑ k : Fin 11008, x (ix2 (i 0) k) * w (ix2 k (i 1))) * xs (ix2 (i 0) 0) * ws (ix2 0 (i 1)) + b (ix2 0 (i 1))

variable (m : (ℓ : Loc nD τ sig) → Buf (Elt Ideal) ℓ)

/-- Block `t` of the codes: its row `r` is the row of the array that row `r` of output block `t` is, all columns. -/
theorem codes_block (c : Dev nD) (t : Fin cfg0.N) (y : S512x512.Idx) (k : Fin 11008) :
    iblk m c 0 t (ix2 (y 0) k) = V m c main_v0 (ix2 (((cfg0.win 5).blk t).view.emb y 0) k) := by
  show V m c main_v0 (((cfg0.win 0).blk t).view.emb (ix2 (y 0) k)) = _
  congr 1
  funext a; apply Fin.ext
  match a with
  | ⟨0, _⟩ => rfl
  | ⟨1, _⟩ =>
    have e : win0_0.index t (1 : Fin 2) = 0 := rfl
    show win0_0.index t (1 : Fin 2) * 11008 + 1 * k.val = k.val
    omega

/-- Block `t` of the token scales, likewise. -/
theorem tokenScale_block (c : Dev nD) (t : Fin cfg0.N) (y : S512x512.Idx) :
    iblk m c 1 t (ix2 (y 0) 0) = V m c main_v1 (ix2 (((cfg0.win 5).blk t).view.emb y 0) 0) := by
  show V m c main_v1 (((cfg0.win 1).blk t).view.emb (ix2 (y 0) 0)) = _
  congr 1
  funext a; apply Fin.ext
  match a with
  | ⟨0, _⟩ => rfl
  | ⟨1, _⟩ => rfl

/-- Block `t` of the weights: its column `l` is the column of the array that column `l` of output block `t` is, all rows. -/
theorem weights_block (c : Dev nD) (t : Fin cfg0.N) (y : S512x512.Idx) (k : Fin 11008) :
    iblk m c 2 t (ix2 k (y 1)) = V m c main_arg2 (ix2 k (((cfg0.win 5).blk t).view.emb y 1)) := by
  show V m c main_arg2 (((cfg0.win 2).blk t).view.emb (ix2 k (y 1))) = _
  congr 1
  funext a; apply Fin.ext
  match a with
  | ⟨0, _⟩ =>
    have e : win0_2.index t (0 : Fin 2) = 0 := rfl
    show win0_2.index t (0 : Fin 2) * 11008 + 1 * k.val = k.val
    omega
  | ⟨1, _⟩ => rfl

/-- Block `t` of the channel scales, likewise. -/
theorem channelScale_block (c : Dev nD) (t : Fin cfg0.N) (y : S512x512.Idx) :
    iblk m c 3 t (ix2 0 (y 1)) = V m c main_v2 (ix2 0 (((cfg0.win 5).blk t).view.emb y 1)) := by
  show V m c main_v2 (((cfg0.win 3).blk t).view.emb (ix2 0 (y 1))) = _
  congr 1
  funext a; apply Fin.ext
  match a with
  | ⟨0, _⟩ => rfl
  | ⟨1, _⟩ => rfl

/-- Block `t` of the bias, likewise. -/
theorem bias_block (c : Dev nD) (t : Fin cfg0.N) (y : S512x512.Idx) :
    iblk m c 4 t (ix2 0 (y 1)) = V m c main_v3 (ix2 0 (((cfg0.win 5).blk t).view.emb y 1)) := by
  show V m c main_v3 (((cfg0.win 4).blk t).view.emb (ix2 0 (y 1))) = _
  congr 1
  funext a; apply Fin.ext
  match a with
  | ⟨0, _⟩ => rfl
  | ⟨1, _⟩ => rfl

/-- The output window's blocks tile its array. -/
theorem covers : win0_5.Covers := by decide +kernel

/-- What grid point `t` leaves in the output block, at an index of the block: `flat` of the operands at the index of the
    array that the block's index is. -/
theorem point_value (c : Dev nD) (t : Fin cfg0.N) (y : S512x512.Idx) :
    out0_5 (iblk m c 0 t) (iblk m c 1 t) (iblk m c 2 t) (iblk m c 3 t) (iblk m c 4 t) y
      = flat (V m c main_v0) (V m c main_v1) (V m c main_arg2) (V m c main_v2) (V m c main_v3)
          (((cfg0.win 5).blk t).view.emb y) := by
  unfold out0_5 flat
  have hz : (![0, 0] : Fin 2 → Nat) = fun _ => 0 := funext fun a => by fin_cases a <;> rfl
  rw [View.canon_unit_zero hz, View.ld_unit_zero (S := S512x11008) hz, View.ld_unit_zero (S := S11008x512) hz,
    View.ld_unit_zero (S := S512x1) hz, View.ld_unit_zero (S := S1x512) hz, View.ld_unit_zero (S := S1x512) hz]
  have hp := kernel_pay_apply (iblk m c 0 t) (iblk m c 2 t) (iblk m c 1 t) (iblk m c 3 t) (iblk m c 4 t) (y 0) (y 1)
  rw [← eq_ix2 y] at hp
  rw [hp, tokenScale_block, channelScale_block, bias_block]
  simp only [codes_block, weights_block]

/-- THE ARRAY after the run: `flat` of the five operands as the launch finds them. -/
theorem final_flat (c : Dev nD) :
    (dats m 0 c).arrAt 5 cfg0.N
      = flat (V m c main_v0) (V m c main_v1) (V m c main_arg2) (V m c main_v2) (V m c main_v3) := by
  refine (dats m 0 c).arrAt_eq_of_covers 5 _ covers fun t hf y => ?_
  blk_simp
  rw [after0_5]
  exact point_value m c t y

end Cert.Proof

end
-- ==== Proof.KernelRun.lean ====
/-
  Hand-written, untrusted. THE KERNEL'S RUN WITH ITS RESULT, over the extended reals: the host reshapes the arguments before
  the launch and the launch's array after it, so the result is the reshape of `flat` (Array.lean) of the reshaped arguments.
-/
module

public import proofs.«01_k».proof.Proof.Array
public import Idealize.ShloMosaic.Lib.Claim

@[expose] public section

noncomputable section

namespace Cert.Proof

open Idealize.ShloMosaic Idealize.ShloMosaic.TcCoe Idealize.SL.Sem Cert.KernelIdeal Cert.KernelIdeal.Gen

/-- The kernel's result as one function of its arguments: tokens flattened, scaled product, tokens unflattened. -/
def kernelOut (x : Vec Ideal S8x3072x11008 .fp8e4m3) (xs : Vec Ideal S8x3072x1 .f32) (w : Vec Ideal S11008x4096 .fp8e4m3)
    (ws b : Vec Ideal S4096 .f32) : Vec Ideal S8x3072x4096 .bf16 :=
  shapeCast S8x3072x4096
    (flat (shapeCast S24576x11008 x shapeCasts_S8x3072x11008_S24576x11008)
      (shapeCast S24576x1 xs shapeCasts_S8x3072x1_S24576x1) w
      (shapeCast S1x4096 ws shapeCasts_S4096_S1x4096) (shapeCast S1x4096 b shapeCasts_S4096_S1x4096))
    shapeCasts_S24576x4096_S8x3072x4096

variable (m : (ℓ : Loc nD τ sig) → Buf (Elt Ideal) ℓ) (ρ : Dev nD → PrngReg)

/-- The launch's array, by the arguments: each operand is its argument, reshaped where the host reshapes it. -/
theorem final_args (c : Dev nD) :
    (dats m 0 c).arrAt 5 cfg0.N
      = flat (shapeCast S24576x11008 (m ((c : Thread nD τ).loc main_arg0)) shapeCasts_S8x3072x11008_S24576x11008)
          (shapeCast S24576x1 (m ((c : Thread nD τ).loc main_arg1)) shapeCasts_S8x3072x1_S24576x1)
          (m ((c : Thread nD τ).loc main_arg2))
          (shapeCast S1x4096 (m ((c : Thread nD τ).loc main_arg3)) shapeCasts_S4096_S1x4096)
          (shapeCast S1x4096 (m ((c : Thread nD τ).loc main_arg4)) shapeCasts_S4096_S1x4096) := by
  rw [final_flat]
  entry_read
  rfl

/-- The result buffer after the host's last line: the launch's array, reshaped. -/
theorem tail_result (c : Dev nD) :
    Pipeline.afterTail₀ cfgs (dats m) 0 (V0 m) [hostOps1] c main_v5
      = kernelOut (m ((c : Thread nD τ).loc main_arg0)) (m ((c : Thread nD τ).loc main_arg1))
          (m ((c : Thread nD τ).loc main_arg2)) (m ((c : Thread nD τ).loc main_arg3)) (m ((c : Thread nD τ).loc main_arg4)) := by
  have h := Pipeline.withArrays_arr spec0 launch0.win.arr_inj c (V0 m c) (fun w => (dats m 0 c).arrAt w cfg0.N) 5
  unfold Pipeline.afterTail₀ kernelOut
  rw [← final_args]
  rw [← h]
  show StableHlo.after hostOps1 _ _ = _
  unfold hostOps1
  after_results
  rfl

/-- THE RUN: the result array is `kernelOut` of the arguments, which end unchanged. -/
theorem kernel_run : θ_run (defs (F := Ideal)) (onTc (τ := τ) (main (F := Ideal))) ⟨m, fun _ => 0, ρ⟩ fun r => ∀ c : Dev nD,
      r.2.mem ((c.tc : Thread nD τ).loc main_v5)
        = kernelOut (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, h.2 c⟩) (θ_run_and (run_main m ρ) (unchanged m ρ))
  exact ((h.1 c).2 main_v5 (Pipeline.mem_restRefs_of main_v5 (by decide) (by decide))).trans (tail_result m c)

end Cert.Proof

end
-- ==== Proof.Equation.lean ====
/-
  Hand-written, untrusted. THE EQUATION, over the extended reals: the kernel's result, whose tokens are flattened around the
  launch, is the reference's, element by element.
-/
module

public import proofs.«01_k».proof.Proof.KernelRun

@[expose] public section

noncomputable section

namespace Cert.Proof

open Idealize.ShloMosaic Cert.KernelIdeal Cert.KernelIdeal.Gen

/-- Token `s` of batch `n`, flattened. -/
def token (n : Fin 8) (s : Fin 3072) : Fin 24576 := ⟨n.val * 3072 + s.val, by omega⟩

/-- The kernel's result at batch `n`, token `s` and channel `l`. -/
theorem kernelOut_apply (x : Vec Ideal S8x3072x11008 .fp8e4m3) (xs : Vec Ideal S8x3072x1 .f32)
    (w : Vec Ideal S11008x4096 .fp8e4m3) (ws b : Vec Ideal S4096 .f32) (n : Fin 8) (s : Fin 3072) (l : Fin 4096) :
    kernelOut x xs w ws b (ix3 n s l)
      = (∑ k : Fin 11008, x (ix3 n s k) * w (ix2 k l)) * xs (ix3 n s 0) * ws (ix1 l) + b (ix1 l) := by
  have hx : ∀ k : Fin 11008, shapeCast S24576x11008 x shapeCasts_S8x3072x11008_S24576x11008 (ix2 (token n s) k)
      = x (ix3 n s k) := fun k =>
    shapeCast_apply _ _ _ _ (by rw [Shape.rowMajor_val_three, Shape.rowMajor_val_two]; rfl)
  have hs : shapeCast S24576x1 xs shapeCasts_S8x3072x1_S24576x1 (ix2 (token n s) 0) = xs (ix3 n s 0) :=
    shapeCast_apply _ _ _ _ (by rw [Shape.rowMajor_val_three, Shape.rowMajor_val_two]; rfl)
  have hc : ∀ v : Vec Ideal S4096 .f32, shapeCast S1x4096 v shapeCasts_S4096_S1x4096 (ix2 0 l) = v (ix1 l) := fun v =>
    shapeCast_apply _ _ _ _ (by
      rw [Shape.rowMajor_val_one, Shape.rowMajor_val_two]
      show l.val = 0 * 4096 + l.val
      omega)
  unfold kernelOut
  rw [shapeCast_apply _ _ _ (ix2 (token n s) l) (by rw [Shape.rowMajor_val_three, Shape.rowMajor_val_two]; rfl)]
  show (∑ k : Fin 11008, shapeCast S24576x11008 x _ (ix2 (token n s) k) * w (ix2 k l))
      * shapeCast S24576x1 xs _ (ix2 (token n s) 0) * shapeCast S1x4096 ws _ (ix2 0 l) + shapeCast S1x4096 b _ (ix2 0 l) = _
  rw [hs, hc, hc]
  simp only [hx]

/-- THE EQUATION: kernel and reference compute the same function of the arguments. -/
theorem kernelOut_eq_reference (x : Vec Ideal S8x3072x11008 .fp8e4m3) (xs : Vec Ideal S8x3072x1 .f32)
    (w : Vec Ideal S11008x4096 .fp8e4m3) (ws b : Vec Ideal S4096 .f32) :
    kernelOut x xs w ws b = ReferenceIdeal.Gen.k0_pay1 (F := Ideal) x xs w ws b := by
  funext j
  rw [eq_ix3 j]
  exact (kernelOut_apply x xs w ws b (j 0) (j 1) (j 2)).trans (reference_pay_apply x xs w ws b (j 0) (j 1) (j 2)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

/-- The kernel's and the reference's runs at `Ideal`, from arguments that agree, end with the same result: the kernel's run
    (KernelRun.lean), the reference's generated run, and the equation between the two results (Equation.lean). -/
theorem algebraic : Cert.algebraic_KernelIdeal_ReferenceIdeal (hKernelIdeal := Cert.KernelIdeal.Gen.facts)
    (hReferenceIdeal := Cert.ReferenceIdeal.Gen.facts) := by
  intro m ρ m' ρ' _ hm
  refine ⟨_, kernel_run m ρ, (θ_run Cert.ReferenceIdeal.defs _ _).mono (fun r h c => ⟨(h c).1.trans ?_, (h c).2⟩)
    (Cert.ReferenceIdeal.Value.run m' ρ')⟩
  obtain ⟨h0, h1, h2, h3, h4⟩ := hm c
  rw [h0, h1, h2, h3, h4]
  exact (kernelOut_eq_reference _ _ _ _ _).symm

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
